-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x2048 : Shape := ⟨3, ![2, 2048, 2048]⟩
abbrev S256x256 : Shape := ⟨2, ![256, 256]⟩
abbrev S4096x2048 : Shape := ⟨2, ![4096, 2048]⟩
abbrev S4096x1 : Shape := ⟨2, ![4096, 1]⟩
abbrev S256x2048 : Shape := ⟨2, ![256, 2048]⟩
abbrev S256x1 : Shape := ⟨2, ![256, 1]⟩
abbrev S256x128 : Shape := ⟨2, ![256, 128]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S2x2048x2048, .bf16⟩
  | .hbm, ⟨1, _⟩ => ⟨S256x256, .bf16⟩
  | .hbm, ⟨2, _⟩ => ⟨S4096x2048, .bf16⟩
  | .hbm, ⟨3, _⟩ => ⟨S4096x1, .f32⟩
  | .hbm, ⟨4, _⟩ => ⟨S4096x2048, .fp8e4m3⟩
  | .local _ .vmem, ⟨0, _⟩ => ⟨S256x2048, .bf16⟩
  | .local _ .vmem, ⟨1, _⟩ => ⟨S256x2048, .bf16⟩
  | .local _ .vmem, ⟨2, _⟩ => ⟨S256x256, .bf16⟩
  | .local _ .vmem, ⟨3, _⟩ => ⟨S256x1, .f32⟩
  | .local _ .vmem, ⟨4, _⟩ => ⟨S256x1, .f32⟩
  | .local _ .vmem, ⟨5, _⟩ => ⟨S256x2048, .fp8e4m3⟩
  | .local _ .vmem, ⟨6, _⟩ => ⟨S256x2048, .fp8e4m3⟩
  | .local _ .vmem, ⟨7, _⟩ => ⟨S256x2048, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x2048x2048 : Shape := ⟨3, ![2, 2048, 2048]⟩
abbrev S128x128 : Shape := ⟨2, ![128, 128]⟩
abbrev S2x2048x16x128 : Shape := ⟨4, ![2, 2048, 16, 128]⟩
abbrev S_ : Shape := ⟨0, ![]⟩
abbrev S2x2048 : Shape := ⟨2, ![2, 2048]⟩
abbrev S2x2048x1 : Shape := ⟨3, ![2, 2048, 1]⟩
abbrev S4096x1 : Shape := ⟨2, ![4096, 1]⟩
abbrev S4096x2048 : Shape := ⟨2, ![4096, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S128x128, .bf16⟩
  | .hbm, ⟨2, _⟩ => ⟨S2x2048x16x128, .bf16⟩
  | .hbm, ⟨3, _⟩ => ⟨S2x2048x16x128, .f32⟩
  | .hbm, ⟨4, _⟩ => ⟨S_, .f32⟩
  | .hbm, ⟨5, _⟩ => ⟨S2x2048x16x128, .f32⟩
  | .hbm, ⟨6, _⟩ => ⟨S2x2048x16x128, .f32⟩
  | .hbm, ⟨7, _⟩ => ⟨S2x2048x2048, .f32⟩
  | .hbm, ⟨8, _⟩ => ⟨S2x2048x2048, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .i1⟩
  | .hbm, ⟨19, _⟩ => ⟨S_, .f32⟩
  | .hbm, ⟨20, _⟩ => ⟨S2x2048x1, .f32⟩
  | .hbm, ⟨21, _⟩ => ⟨S2x2048x1, .i1⟩
  | .hbm, ⟨22, _⟩ => ⟨S2x2048x1, .i1⟩
  | .hbm, ⟨23, _⟩ => ⟨S2x2048x1, .f32⟩
  | .hbm, ⟨24, _⟩ => ⟨S_, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S_, .i32⟩
  | .hbm, ⟨33, _⟩ => ⟨S_, .f32⟩
  | .hbm, ⟨34, _⟩ => ⟨S2x2048x1, .f32⟩
  | .hbm, ⟨35, _⟩ => ⟨S2x2048x1, .f32⟩
  | .hbm, ⟨36, _⟩ => ⟨S2x2048x1, .i32⟩
  | .hbm, ⟨37, _⟩ => ⟨S_, .f32⟩
  | .hbm, ⟨38, _⟩ => ⟨S2x2048x1, .f32⟩
  | .hbm, ⟨39, _⟩ => ⟨S2x2048x1, .i1⟩
  | .hbm, ⟨40, _⟩ => ⟨S_, .i32⟩
  | .hbm, ⟨41, _⟩ => ⟨S2x2048x1, .i32⟩
  | .hbm, ⟨42, _⟩ => ⟨S2x2048x1, .i32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1, .i32⟩
  | .hbm, ⟨48, _⟩ => ⟨S2x2048x1, .f32⟩
  | .hbm, ⟨49, _⟩ => ⟨S_, .f32⟩
  | .hbm, ⟨50, _⟩ => ⟨S2x2048x1, .f32⟩
  | .hbm, ⟨51, _⟩ => ⟨S2x2048x1, .f32⟩
  | .hbm, ⟨52, _⟩ => ⟨S2x2048x2048, .f32⟩
  | .hbm, ⟨53, _⟩ => ⟨S2x2048x2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2x2048x2048, .f32⟩
  | .hbm, ⟨58, _⟩ => ⟨S2x2048x2048, .f32⟩
  | .hbm, ⟨59, _⟩ => ⟨S_, .f32⟩
  | .hbm, ⟨60, _⟩ => ⟨S2x2048x2048, .f32⟩
  | .hbm, ⟨61, _⟩ => ⟨S2x2048x2048, .f32⟩
  | .hbm, ⟨62, _⟩ => ⟨S4096x1, .f32⟩
  | .hbm, ⟨63, _⟩ => ⟨S4096x2048, .f32⟩
  | .hbm, ⟨64, _⟩ => ⟨S4096x2048, .fp8e4m3⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_11 : Ref sig .tc := ⟨.hbm, 54, rfl⟩
abbrev main_cst_12 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== Proof.Exponent.lean ====
/- The exponent of the quantiser over the extended reals. The kernel takes the floor of a logarithm and then steps it by
   one where it is off; the reference takes the floor alone. Over the extended reals the floor is never off, so the two
   are one function, `expo`. Stated of scalars; nothing here mentions a program. -/
module

public import Idealize.ShloMosaic.Lib.Pointwise
public import Idealize.ShloMosaic.PureOps.Ideal

@[expose] public section

noncomputable section

namespace Cert.Quant

open Idealize.ShloMosaic

/-- The constant 2. -/
theorem two_f32 : Ideal.ofBits .f32 0x40000000#32 = ((2 : ℝ) : EReal) := by
  show Ideal.ieee 8 23 (0x40000000#32 : BitVec 32) = _
  unfold Ideal.ieee
  rw [show (BitVec.extractLsb' (8 + 23) 1 (0x40000000#32 : BitVec 32) == 1#1) = false from by decide,
    show (BitVec.extractLsb' 23 8 (0x40000000#32 : BitVec 32)).toNat = 128 from by decide,
    show (BitVec.extractLsb' 0 23 (0x40000000#32 : BitVec 32)).toNat = 0 from by decide]
  norm_num

/-- The constant +∞. -/
theorem inf_f32 : Ideal.ofBits .f32 0x7F800000#32 = (⊤ : EReal) := by
  show Ideal.ieee 8 23 (0x7F800000#32 : BitVec 32) = _
  unfold Ideal.ieee
  rw [show (BitVec.extractLsb' (8 + 23) 1 (0x7F800000#32 : BitVec 32) == 1#1) = false from by decide,
    show (BitVec.extractLsb' 23 8 (0x7F800000#32 : BitVec 32)).toNat = 255 from by decide,
    show (BitVec.extractLsb' 0 23 (0x7F800000#32 : BitVec 32)).toNat = 0 from by decide]
  norm_num

/-- The constant −∞. -/
theorem neg_inf_f32 : Ideal.ofBits .f32 0xFF800000#32 = (⊥ : EReal) := by
  show Ideal.ieee 8 23 (0xFF800000#32 : BitVec 32) = _
  unfold Ideal.ieee
  rw [show (BitVec.extractLsb' (8 + 23) 1 (0xFF800000#32 : BitVec 32) == 1#1) = true from by decide,
    show (BitVec.extractLsb' 23 8 (0xFF800000#32 : BitVec 32)).toNat = 255 from by decide,
    show (BitVec.extractLsb' 0 23 (0xFF800000#32 : BitVec 32)).toNat = 0 from by decide]
  norm_num

/-- The floor of the base-two logarithm, as a quotient of natural logarithms. -/
def flog (t : EReal) : EReal := Ideal.liftRound Int.floor (Ideal.div (Ideal.log t) (Ideal.log ((2 : ℝ) : EReal)))

theorem log_two : Ideal.log ((2 : ℝ) : EReal) = ((Real.log 2 : ℝ) : EReal) := by
  rw [Ideal.log_coe, if_neg (by norm_num)]

theorem log_two_pos : (0 : ℝ) < Real.log 2 := Real.log_pos (by norm_num)

/-- The floor of the logarithm of a real above zero. -/
theorem flog_pos {r : ℝ} (h : 0 < r) : flog (r : EReal) = ((⌊Real.log r / Real.log 2⌋ : ℝ) : EReal) := by
  unfold flog
  rw [log_two, Ideal.div_coe log_two_pos.ne', Ideal.log_coe, if_neg (not_le.2 h), ← EReal.coe_mul, Ideal.liftRound_coe,
    mul_one_div]

/-- The floor of a logarithm that is −∞. -/
theorem flog_bot {t : EReal} (h : Ideal.log t = ⊥) : flog t = ⊥ := by
  unfold flog
  rw [h, log_two, Ideal.div_coe log_two_pos.ne', EReal.bot_mul_coe_of_pos (by have := log_two_pos; positivity)]
  rfl

theorem flog_top : flog ⊤ = ⊤ := by
  unfold flog
  rw [Ideal.log_top, log_two, Ideal.div_coe log_two_pos.ne', EReal.top_mul_coe_of_pos (by have := log_two_pos; positivity)]
  rfl

/-- Two to the floor of the base-two logarithm of `r` is at most `r`. -/
theorem two_rpow_le {r : ℝ} (h : 0 < r) : Real.rpow 2 ((⌊Real.log r / Real.log 2⌋ : ℤ) : ℝ) ≤ r := by
  show (2 : ℝ) ^ ((⌊Real.log r / Real.log 2⌋ : ℤ) : ℝ) ≤ r
  rw [Real.rpow_def_of_pos (by norm_num)]
  conv_rhs => rw [← Real.exp_log h]
  rw [Real.exp_le_exp, mul_comm, ← le_div_iff₀ log_two_pos]
  exact Int.floor_le _

/-- … and twice it is above `r`. -/
theorem lt_two_mul_rpow {r : ℝ} (h : 0 < r) : r < 2 * Real.rpow 2 ((⌊Real.log r / Real.log 2⌋ : ℤ) : ℝ) := by
  show r < 2 * (2 : ℝ) ^ ((⌊Real.log r / Real.log 2⌋ : ℤ) : ℝ)
  have e : 2 * (2 : ℝ) ^ ((⌊Real.log r / Real.log 2⌋ : ℤ) : ℝ) = (2 : ℝ) ^ (((⌊Real.log r / Real.log 2⌋ : ℤ) : ℝ) + 1) := by
    rw [Real.rpow_add (by norm_num), Real.rpow_one, mul_comm]
  rw [e, Real.rpow_def_of_pos (by norm_num)]
  conv_lhs => rw [← Real.exp_log h]
  rw [Real.exp_lt_exp, mul_comm, ← div_lt_iff₀ log_two_pos]
  exact Int.lt_floor_add_one _

/-- The kernel's stepped floor of the logarithm. -/
def stepped (t : EReal) : EReal :=
  if t < Ideal.exp2 (flog t) then flog t - 1
  else if ((2 : ℝ) : EReal) * Ideal.exp2 (flog t) ≤ t then flog t + 1 else flog t

/-- No step is ever taken that changes the value. -/
theorem stepped_eq (t : EReal) : stepped t = flog t := by
  have hb : flog t = ⊥ → stepped t = flog t := by
    intro h
    unfold stepped
    rw [h]
    split_ifs
    · rfl
    · rfl
    · rfl
  induction t with
  | bot => exact hb (flog_bot rfl)
  | top =>
    unfold stepped
    rw [flog_top, Ideal.exp2_top, if_neg (lt_irrefl _)]
    split_ifs
    · rfl
    · rfl
  | coe r =>
    rcases le_or_gt r 0 with h | h
    · exact hb (flog_bot (by rw [Ideal.log_coe, if_pos h]))
    · unfold stepped
      rw [flog_pos h, Ideal.exp2_coe, if_neg (not_lt.2 (EReal.coe_le_coe_iff.2 (two_rpow_le h))), if_neg]
      rw [← EReal.coe_mul, not_le, EReal.coe_lt_coe_iff]
      exact lt_two_mul_rpow h

/-- The quantiser's exponent of a row whose largest magnitude is `a`, `t` being `a` over the largest code. -/
def expo (a t : EReal) : BitVec 32 :=
  if a = 0 then 0#32 else if t = 0 ∨ max t (-t) = ⊤ then 0#32 else Ideal.fptosi 32 (flog t + 1)

theorem sel (p : Prop) [Decidable p] {α : Type} (x y : α) :
    Scalar.select (BitVec.ofBool (decide p)) x y = if p then x else y := by
  by_cases h : p <;> simp [Scalar.select, h]

theorem ori_of (p q : Prop) [Decidable p] [Decidable q] :
    IntOp.ori (BitVec.ofBool (decide p)) (BitVec.ofBool (decide q)) = BitVec.ofBool (decide (p ∨ q)) := by
  by_cases hp : p <;> by_cases hq : q <;> simp [IntOp.ori, hp, hq]

theorem andi_of (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- Two to an integer power, as the reference's `power` and as the kernel's `exp2`. -/
theorem pow_two_int (n : ℤ) : Ideal.pow ((2 : ℝ) : EReal) (((n : ℝ)) : EReal) = Ideal.exp2 (((n : ℝ)) : EReal) := rfl

theorem fptosi_zero : Ideal.fptosi 32 (((0 : ℤ) : ℝ) : EReal) = 0#32 := by
  unfold Ideal.fptosi
  rw [Ideal.toIntClamped_coe]
  norm_num

end Cert.Quant

end
-- ==== Proof.Block.lean ====
/- The value of one grid point of the kernel: what it stores into its block of scales and its block of codes, as functions
   of the rows of its input block and of the 256 by 256 table. The eight products are one function `prod` of the row and the
   column, so the scratch read back whole is `prod`, and the running maximum over lanes is the maximum of the row. -/
module

public import proofs.«01_k».proof.Proof.Gen.KernelIdeal.Value
public import proofs.«01_k».proof.Proof.Exponent
public import Idealize.ShloMosaic.Lib.Pipeline.ValueKit
public import Idealize.ShloMosaic.Lib.Pipeline.ReadBack
public import Idealize.ShloMosaic.Lib.Pointwise
import Mathlib.Tactic.IntervalCases

@[expose] public section

set_option maxRecDepth 16384

noncomputable section

namespace Cert.Quant

open Cert.KernelIdeal Cert.KernelIdeal.Gen Idealize.ShloMosaic Idealize.ShloMosaic.TcCoe Idealize.SL.Sem
open Idealize.ShloMosaic.Pipeline (Dat)

/-- One product of a row block with the table, over the 256 entries of one table column: entry `j` of row `r`. -/
def prod (x : Vec Ideal S256x2048 .bf16) (h : Vec Ideal S256x256 .bf16) (r : Fin 256) (j : Fin 2048) : EReal :=
  (∑ k : Fin 256, x (ix2 r ⟨256 * (j.val / 256) + k.val, by omega⟩) * h (ix2 k ⟨j.val % 256, by omega⟩))
    * Ideal.ofBits .f32 0x3DB504F3#32

/-- The largest absolute value of a row of 2048 numbers. -/
def amax (f : Fin 2048 → EReal) : EReal := Finset.univ.fold max ⊥ fun j => max (f j) (-(f j))

/-- The exponent of a row from its largest absolute value. -/
def rowExpo (f : Fin 2048 → EReal) : BitVec 32 := expo (amax f) (amax f * Ideal.ofBits .f32 0x3B124925#32)

/-- The scale of a row. -/
def rowScale (f : Fin 2048 → EReal) : EReal := Ideal.exp2 (FloatOps.sitofp (F := Ideal) .f32 (rowExpo f))

/-- The code of entry `j` of a row. -/
def rowCode (f : Fin 2048 → EReal) (j : Fin 2048) : EReal :=
  min (Ideal.ofBits .f32 0x43E00000#32) (max (Ideal.ofBits .f32 0xC3E00000#32)
    (f j * Ideal.exp2 (FloatOps.sitofp (F := Ideal) .f32 (IntOp.subi 0#32 (rowExpo f)))))

/-- A maximum taken of sixteen groups of 128 lanes, the groups first, is the maximum of the row. -/
theorem amax_lanes (f : Fin 2048 → EReal) (g : Fin 128 → EReal)
    (hle : ∀ l, g l ≤ amax f) (hge : ∀ (s : ℕ) (hs : s < 16) (l : Fin 128),
      max (f ⟨128 * s + l.val, by omega⟩) (-(f ⟨128 * s + l.val, by omega⟩)) ≤ g l) :
    Finset.univ.fold max ⊥ g = amax f := by
  refine le_antisymm (Finset.sup_le (s := Finset.univ) (f := g) fun l _ => hle l) ?_
  refine Finset.sup_le (s := Finset.univ) (f := fun j => max (f j) (-(f j))) fun j _ => ?_
  refine le_trans ?_ (Finset.le_sup (s := Finset.univ) (f := g) (Finset.mem_univ ⟨j.val % 128, by omega⟩))
  refine le_trans (le_of_eq ?_) (hge (j.val / 128) (by omega) ⟨j.val % 128, by omega⟩)
  have e : j = ⟨128 * (j.val / 128) + j.val % 128, by omega⟩ := Fin.ext (by simp only; omega)
  exact congrArg (fun i => max (f i) (-(f i))) e

theorem absf_ideal (a : Ideal .f32) : FloatOps.absf a = max (a : EReal) (-a) := rfl

theorem exp2_ideal (a : Ideal .f32) : FloatOps.exp2 a = Ideal.exp2 a := rfl

theorem le_amax (f : Fin 2048 → EReal) (j : Fin 2048) : max (f j) (-(f j)) ≤ amax f :=
  Finset.le_sup (s := Finset.univ) (f := fun j => max (f j) (-(f j))) (Finset.mem_univ j)

section Tiles
variable (x : Vec Ideal S256x2048 .bf16) (h : Vec Ideal S256x256 .bf16)

/-- The product of the slice of 256 columns starting at `o` with the table, read at an index, is the row's entry there. -/
theorem tile (o : ℕ) (ho : o % 256 = 0) (hb : o + 256 ≤ 2048) (inb : ∀ a, ![0, o] a + ![256, 256] a ≤ S256x2048.size a)
    (r l : Fin 256) :
    k0_pay2 (F := Ideal) h (View.ld x (Rect.unit ![0, o] ![256, 256] inb)) (ix2 r l) = prod x h r ⟨o + l.val, by omega⟩ := by
  unfold prod
  pointwise [k0_pay2]
  refine congrArg (· * _) (Finset.sum_congr rfl fun k _ => ?_)
  refine congrArg₂ (· * ·) (congrArg x (congrArg (ix2 r) (Fin.ext ?_))) (congrArg h (congrArg (ix2 k) (Fin.ext ?_)))
  · show o + k.val = 256 * ((o + l.val) / 256) + k.val
    omega
  · show l.val = (o + l.val) % 256
    omega

/-- The slice of 256 columns starting at `o`. -/
abbrev sl (o : ℕ) (inb : ∀ a, ![0, o] a + ![256, 256] a ≤ S256x2048.size a) : Vec Ideal S256x256 .bf16 :=
  View.ld x (Rect.unit ![0, o] ![256, 256] inb)

/-- The running maximum after the last slice, reduced along its lanes: the largest absolute value of each row. -/
theorem rowmax (j : S256x1.Idx) :
    k0_pay20 (F := Ideal) h
      (k0_pay13 h
        (k0_pay6 h (sl x 0 inb_S256x2048_S256x256_0_0) (sl x 256 inb_S256x2048_S256x256_0_256))
        (k0_pay7 h (sl x 512 inb_S256x2048_S256x256_0_512)) (sl x 768 inb_S256x2048_S256x256_0_768)
        (sl x 1024 inb_S256x2048_S256x256_0_1024))
      (k0_pay14 h (sl x 1280 inb_S256x2048_S256x256_0_1280)) (sl x 1536 inb_S256x2048_S256x256_0_1536)
      (sl x 1792 inb_S256x2048_S256x256_0_1792) j = amax (prod x h (j 0)) := by
  idx_vars j
  pointwise [k0_pay20, k0_pay13, k0_pay6]
  simp only [show k0_pay4 (F := Ideal) = k0_pay2 from rfl, show k0_pay7 (F := Ideal) = k0_pay2 from rfl,
    show k0_pay9 (F := Ideal) = k0_pay2 from rfl, show k0_pay11 (F := Ideal) = k0_pay2 from rfl,
    show k0_pay14 (F := Ideal) = k0_pay2 from rfl, show k0_pay16 (F := Ideal) = k0_pay2 from rfl,
    show k0_pay18 (F := Ideal) = k0_pay2 from rfl]
  simp only [sl, tile x h 0 (by decide) (by decide), tile x h 256 (by decide) (by decide), tile x h 512 (by decide) (by decide),
    tile x h 768 (by decide) (by decide), tile x h 1024 (by decide) (by decide), tile x h 1280 (by decide) (by decide),
    tile x h 1536 (by decide) (by decide), tile x h 1792 (by decide) (by decide), neg_inf_f32, absf_ideal]
  generalize prod x h j0 = f
  refine amax_lanes f _ (fun l => ?_) fun s hs l => ?_
  · have e := le_amax f
    exact max_le (max_le (max_le (max_le (max_le (max_le (max_le (max_le (e _) (e _)) (max_le (e _) (e _)))
      (max_le (e _) (e _))) (max_le (e _) (e _))) (max_le (e _) (e _))) (max_le (e _) (e _))) (max_le (e _) (e _)))
      (max_le (e _) (e _))
  · obtain ⟨w, hw⟩ : ∃ w : Fin 2048 → EReal, ∀ i, max (f i) (-(f i)) = w i := ⟨_, fun _ => rfl⟩
    simp only [hw]
    interval_cases s <;>
      simp only [le_max_iff, Nat.reduceMul, ← Nat.add_assoc, Nat.reduceAdd, Nat.zero_add, le_refl, true_or, or_true]

/-- The scratch after its eight stores, read back whole: the row's entries. -/
theorem scratch (arg5 : Memref sig .tc .vmem S256x2048 .f32) :
    View.readCov (Val := Elt Ideal) arg5.view
      [⟨Rect.unit ![0, 1792] ![256, 256] inb_S256x2048_S256x256_0_1792, k0_pay19 (F := Ideal) h (sl x 1792 inb_S256x2048_S256x256_0_1792)⟩,
        ⟨Rect.unit ![0, 1536] ![256, 256] inb_S256x2048_S256x256_0_1536, k0_pay17 h (sl x 1536 inb_S256x2048_S256x256_0_1536)⟩,
        ⟨Rect.unit ![0, 1280] ![256, 256] inb_S256x2048_S256x256_0_1280, k0_pay15 (k0_pay14 h (sl x 1280 inb_S256x2048_S256x256_0_1280))⟩,
        ⟨Rect.unit ![0, 1024] ![256, 256] inb_S256x2048_S256x256_0_1024, k0_pay12 h (sl x 1024 inb_S256x2048_S256x256_0_1024)⟩,
        ⟨Rect.unit ![0, 768] ![256, 256] inb_S256x2048_S256x256_0_768, k0_pay10 h (sl x 768 inb_S256x2048_S256x256_0_768)⟩,
        ⟨Rect.unit ![0, 512] ![256, 256] inb_S256x2048_S256x256_0_512, k0_pay8 h (sl x 512 inb_S256x2048_S256x256_0_512)⟩,
        ⟨Rect.unit ![0, 256] ![256, 256] inb_S256x2048_S256x256_0_256, k0_pay5 h (sl x 256 inb_S256x2048_S256x256_0_256)⟩,
        ⟨Rect.unit ![0, 0] ![256, 256] inb_S256x2048_S256x256_0_0, k0_pay3 h (sl x 0 inb_S256x2048_S256x256_0_0)⟩]
      (Rect.unit (s := S256x2048) ![0, 0] S256x2048.size inb_S256x2048_S256x2048_0_0).toLoadRect
      = fun i : S256x2048.Idx => prod x h (i 0) (i 1) := by
  have key : ∀ (o : ℕ) (ho : o % 256 = 0) (hb : o + 256 ≤ 2048) (inb : ∀ a, ![0, o] a + ![256, 256] a ≤ S256x2048.size a)
      (y : S256x256.Idx), k0_pay3 (F := Ideal) h (sl x o inb) y = prod x h (((Rect.unit (s := S256x2048) ![0, o] ![256, 256] inb).emb y) 0)
        (((Rect.unit (s := S256x2048) ![0, o] ![256, 256] inb).emb y) 1) := by
    intro o ho hb inb y
    idx_vars y
    pointwise [k0_pay3]
    rw [sl, tile x h o ho hb]
    refine congrArg₂ (prod x h) (Fin.ext ?_) (Fin.ext ?_)
    · show y0.val = 0 + 1 * y0.val
      omega
    · show o + y1.val = o + 1 * y1.val
      omega
  rw [View.readCov_eq_canon']
  funext i
  refine (View.canon_apply_of_pieces (fun i => prod x h (i 0) (i 1)) _ ?_ _ ?_).trans ?_
  · intro p hp
    simp only [List.mem_cons, List.not_mem_nil, or_false] at hp
    rcases hp with rfl | rfl | rfl | rfl | rfl | rfl | rfl | rfl
    · exact key 1792 (by decide) (by decide) inb_S256x2048_S256x256_0_1792
    · exact key 1536 (by decide) (by decide) inb_S256x2048_S256x256_0_1536
    · exact key 1280 (by decide) (by decide) inb_S256x2048_S256x256_0_1280
    · exact key 1024 (by decide) (by decide) inb_S256x2048_S256x256_0_1024
    · exact key 768 (by decide) (by decide) inb_S256x2048_S256x256_0_768
    · exact key 512 (by decide) (by decide) inb_S256x2048_S256x256_0_512
    · exact key 256 (by decide) (by decide) inb_S256x2048_S256x256_0_256
    · exact key 0 (by decide) (by decide) inb_S256x2048_S256x256_0_0
  · exact View.cover_of_tiledL _ ![256, 256] (by sl_kernel_rfl) _
  · refine congrArg₂ (prod x h) (Fin.ext ?_) (Fin.ext ?_)
    · show 0 + 1 * (i 0).val = (i 0).val
      omega
    · show 0 + 1 * (i 1).val = (i 1).val
      omega

end Tiles

/-- The kernel's exponent of a row, as the plain one. -/
theorem exp_apply (v113 v115 : FVec Ideal S256x1 .f32) (j : S256x1.Idx) :
    k0_pay24 (F := Ideal) v113 v115 (log v115) k0_pay23 j = expo (v113 j) (v115 j) := by
  idx_vars j
  pointwise [k0_pay24, k0_pay23]
  generalize v113 (ix2 j0 j1) = a
  generalize v115 (ix2 j0 j1) = t
  have h := stepped_eq t
  unfold stepped flog at h
  unfold expo flog
  simp only [two_f32, inf_f32, exp2_ideal, absf_ideal, h,
    ori_of, sel, ne_eq, not_true_eq_false, or_false]
  rfl

theorem bound_apply (v0 v69 v74 v84 v98) (j : S256x1.Idx) :
    k0_pay21 (F := Ideal) v0 v69 v74 v84 v98 j = k0_pay20 (F := Ideal) v0 v69 v74 v84 v98 j * Ideal.ofBits .f32 0x3B124925#32 := rfl

theorem scale_apply (v113 v115 : FVec Ideal S256x1 .f32) (j : S256x1.Idx) :
    k0_pay25 (F := Ideal) v113 v115 (log v115) k0_pay23 j
      = Ideal.exp2 (FloatOps.sitofp (F := Ideal) .f32 (expo (v113 j) (v115 j))) := by
  rw [← exp_apply]
  rfl

theorem codes_apply (v113 v115 : FVec Ideal S256x1 .f32) (v156 : Vec Ideal S256x2048 .f32) (r : Fin 256) (j : Fin 2048) :
    k0_pay1 (F := Ideal) (FloatOps.ofBits FTy.f32 1138753536#32) (k0_pay26 v113 v115 (log v115) k0_pay23 v156) (ix2 r j)
      = min (Ideal.ofBits .f32 0x43E00000#32) (max (Ideal.ofBits .f32 0xC3E00000#32)
          (v156 (ix2 r j) * Ideal.exp2 (FloatOps.sitofp (F := Ideal) .f32
            (IntOp.subi 0#32 (expo (v113 (ix2 r 0)) (v115 (ix2 r 0))))))) := by
  rw [← exp_apply]
  pointwise [k0_pay1, k0_pay26]
  rfl

section Outs
variable (c : Dev nD) (i : grid0.Coords) (arg1 : Memref sig .tc .vmem S256x2048 .bf16) (harg1 : arg1.IsWhole) (arg2 : Memref sig .tc .vmem S256x256 .bf16) (harg2 : arg2.IsWhole) (arg3 : Memref sig .tc .vmem S256x1 .f32) (harg3 : arg3.IsWhole) (arg4 : Memref sig .tc .vmem S256x2048 .fp8e4m3) (harg4 : arg4.IsWhole) (arg5 : Memref sig .tc .vmem S256x2048 .f32) (harg5 : arg5.IsWhole)
    (x : Vec Ideal S256x2048 .bf16) (h : Vec Ideal S256x256 .bf16)

/-- The scale block a grid point writes. -/
theorem out_scale (y : S256x1.Idx) :
    out0_A_2 (F := Ideal) c i arg1 harg1 arg2 harg2 arg3 harg3 arg4 harg4 arg5 harg5 x h y = rowScale (prod x h (y 0)) := by
  frame_open
  frame_out
  refine (scale_apply _ _ y).trans ?_
  rw [bound_apply, rowmax x h y]
  rfl

/-- The codes block a grid point writes. -/
theorem out_codes (y : S256x2048.Idx) :
    out0_A_3 (F := Ideal) c i arg1 harg1 arg2 harg2 arg3 harg3 arg4 harg4 arg5 harg5 x h y = rowCode (prod x h (y 0)) (y 1) := by
  frame_open
  frame_out
  erw [scratch x h arg5]
  idx_vars y
  refine (codes_apply _ _ _ y0 y1).trans ?_
  rw [bound_apply, rowmax x h (ix2 y0 0)]
  rfl

end Outs

end Cert.Quant

end
-- ==== Proof.Table.lean ====
/- The two printed Hadamard constants: the kernel's 256-wide one is two copies of the reference's 128-wide one on its
   diagonal and zero elsewhere. Each printed table is a tree of digit matches; its row digits are first told apart from
   the entry's index, so that one comparison per row covers the row's entries. -/
module

public import proofs.«01_k».proof.KernelIdeal
public import proofs.«01_k».proof.ReferenceIdeal
import Mathlib.Tactic.IntervalCases

@[expose] public section

set_option maxRecDepth 65536

noncomputable section

namespace Cert.Quant

open Idealize.ShloMosaic

/-- The reference's table with its row and its index told apart: row `p`, read at an index. -/
def gR : {g : ℕ → ℕ → BitVec 16 // ∀ j, Cert.ReferenceIdeal.lit0t j = g (j / 128) j} := by
  refine ⟨?f, ?h⟩
  case h =>
    intro i
    unfold Cert.ReferenceIdeal.lit0t
    generalize i / 128 = q
    exact rfl

/-- The kernel's table likewise; its half row `128 q + p` is told by two digits. -/
def gK : {g : ℕ → ℕ → ℕ → BitVec 16 // ∀ i, Cert.KernelIdeal.lit0t i = g (i / 16384) (i / 128 % 128) i} := by
  refine ⟨?f, ?h⟩
  case h =>
    intro i
    unfold Cert.KernelIdeal.lit0t Cert.KernelIdeal.lit0t1_0 Cert.KernelIdeal.lit0t1_1 Cert.KernelIdeal.lit0t1_2
      Cert.KernelIdeal.lit0t1_3
    generalize i / 16384 = q
    generalize i / 128 % 128 = p
    exact rfl

set_option maxHeartbeats 4000000 in
/-- Row `r` of the reference's table is half row `2 r` and half row `2 r + 257` of the kernel's, entry by entry. -/
theorem row_same (r : ℕ) (hr : r < 128) : ∃ f : ℕ → BitVec 16, (∀ i, gR.1 r i = f (i % 128))
    ∧ (∀ i, gK.1 (2 * r / 128) (2 * r % 128) i = f (i % 128))
    ∧ ∀ i, gK.1 ((2 * r + 257) / 128) ((2 * r + 257) % 128) i = f (i % 128) := by
  interval_cases r <;> refine ⟨?_, fun i => ?_, fun i => ?_, fun i => ?_⟩
  all_goals try
    conv => lhs; whnf
    generalize i % 128 = m
    exact rfl

set_option maxHeartbeats 4000000 in
/-- Half rows `2 r + 1` and `2 r + 256` of the kernel's table are all half row 1. -/
theorem row_zero (r : ℕ) (hr : r < 128) : (∀ i, gK.1 ((2 * r + 1) / 128) ((2 * r + 1) % 128) i = gK.1 0 1 i)
    ∧ ∀ i, gK.1 ((2 * r + 256) / 128) ((2 * r + 256) % 128) i = gK.1 0 1 i := by
  interval_cases r <;> exact ⟨fun i => rfl, fun i => rfl⟩

theorem half_one : ∃ f : ℕ → BitVec 16, ∀ i, gK.1 0 1 i = f (i % 128) := by
  refine ⟨?_, fun i => ?_⟩
  all_goals try
    conv => lhs; whnf
    generalize i % 128 = m
    exact rfl

theorem half_one_zero : ∀ m : Fin 128, gK.1 0 1 m.val = 0#16 := by
  decide +kernel

/-- The kernel's constant at row `r`, column `c`: on the diagonal blocks the reference's, elsewhere zero. -/
theorem table (r c : ℕ) (hr : r < 256) (hc : c < 256) : Cert.KernelIdeal.lit0t (256 * r + c)
    = if r / 128 = c / 128 then Cert.ReferenceIdeal.lit0t (128 * (r % 128) + c % 128) else 0#16 := by
  have hz : ∀ i, gK.1 0 1 i = 0#16 := by
    intro i
    obtain ⟨f, hf⟩ := half_one
    have := half_one_zero ⟨i % 128, Nat.mod_lt _ (by norm_num)⟩
    rw [hf] at this ⊢
    rwa [Nat.mod_mod] at this
  have hs : r % 128 < 128 := Nat.mod_lt _ (by norm_num)
  obtain ⟨f, hR, hA, hB⟩ := row_same (r % 128) hs
  obtain ⟨zA, zB⟩ := row_zero (r % 128) hs
  rw [gK.2, gR.2, show (128 * (r % 128) + c % 128) / 128 = r % 128 by omega, hR,
    show (128 * (r % 128) + c % 128) % 128 = (256 * r + c) % 128 by omega]
  rcases lt_or_ge r 128 with h1 | h1 <;> rcases lt_or_ge c 128 with h2 | h2
  · rw [if_pos (by omega), show (256 * r + c) / 16384 = 2 * (r % 128) / 128 by omega,
      show (256 * r + c) / 128 % 128 = 2 * (r % 128) % 128 by omega, hA]
  · rw [if_neg (by omega), show (256 * r + c) / 16384 = (2 * (r % 128) + 1) / 128 by omega,
      show (256 * r + c) / 128 % 128 = (2 * (r % 128) + 1) % 128 by omega, zA, hz]
  · rw [if_neg (by omega), show (256 * r + c) / 16384 = (2 * (r % 128) + 256) / 128 by omega,
      show (256 * r + c) / 128 % 128 = (2 * (r % 128) + 256) % 128 by omega, zB, hz]
  · rw [if_pos (by omega), show (256 * r + c) / 16384 = (2 * (r % 128) + 257) / 128 by omega,
      show (256 * r + c) / 128 % 128 = (2 * (r % 128) + 257) % 128 by omega, hB]

end Cert.Quant

end
-- ==== Proof.Array.lean ====
/- The arrays after the kernel run, as functions of the argument: row by row, the scale and the codes of the transformed row. A block of
   the grid reads 256 rows of the argument and the whole table; half of each table column is zero, so the product over 256 entries is
   the product over the group of 128. -/
module

public import proofs.«01_k».proof.Proof.Gen.KernelIdeal.Value
public import proofs.«01_k».proof.Proof.Block
public import Idealize.ShloMosaic.Lib.Pipeline.ValueKit
public import Idealize.ShloMosaic.Lib.Pipeline.ReadBack
public import Idealize.ShloMosaic.Lib.Pointwise
public import proofs.«01_k».proof.Proof.Table

@[expose] public section

set_option maxRecDepth 16384

noncomputable section

namespace Cert.Quant

open Cert.KernelIdeal Cert.KernelIdeal.Gen Idealize.ShloMosaic Idealize.ShloMosaic.TcCoe Idealize.SL.Sem
open Idealize.ShloMosaic.Pipeline (Dat)

section Arrays
variable (m : (ℓ : Loc nD τ sig) → Buf (Elt Ideal) ℓ) (c : Dev nD)

/-- Row `i` of the transformed argument: entry `j` is the product of its group of 128 entries with column `j` of the table. -/
def row (X : S2x2048x2048.Idx → EReal) (i : Fin 4096) (j : Fin 2048) : EReal :=
  (∑ k : Fin 128, X (ix3 (n0 := 2) (n1 := 2048) (n2 := 2048) ⟨i.val / 2048, by omega⟩ ⟨i.val % 2048, by omega⟩ ⟨128 * (j.val / 128) + k.val, by omega⟩)
      * Ideal.ofBits .bf16 (Cert.ReferenceIdeal.lit0t (128 * k.val + j.val % 128)))
    * Ideal.ofBits .f32 0x3DB504F3#32

theorem cast_x (X : S2x2048x2048.Idx → EReal) (i : Fin 4096) (j : Fin 2048) :
    shapeCast S4096x2048 X shapeCasts_S2x2048x2048_S4096x2048 (ix2 i j)
      = X (ix3 (n0 := 2) (n1 := 2048) (n2 := 2048) ⟨i.val / 2048, by omega⟩ ⟨i.val % 2048, by omega⟩ j) := by
  refine shapeCast_apply _ _ _ _ ?_
  rw [Shape.rowMajor_val_two, Shape.rowMajor_val_three]
  show (i.val / 2048 * 2048 + i.val % 2048) * 2048 + j.val = i.val * 2048 + j.val
  omega

/-- The kernel's first operand: the argument, its two leading axes merged. -/
theorem V_x (i : Fin 4096) (j : Fin 2048) :
    (V m c main_v0 : S4096x2048.Idx → EReal) (ix2 i j) = (m ((c : Thread nD τ).loc main_arg0) : S2x2048x2048.Idx → EReal) (ix3 (n0 := 2) (n1 := 2048) (n2 := 2048) ⟨i.val / 2048, by omega⟩ ⟨i.val % 2048, by omega⟩ j) := by
  have h : (V m c main_v0 : S4096x2048.Idx → EReal)
      = shapeCast (α := EReal) S4096x2048 (m ((c : Thread nD τ).loc main_arg0)) shapeCasts_S2x2048x2048_S4096x2048 := by
    unfold V
    after_results
    rfl
  rw [h]
  exact cast_x _ i j

/-- The kernel's second operand: the table. -/
theorem V_h (k l : Fin 256) : (V m c main_cst : S256x256.Idx → EReal) (ix2 k l) = Ideal.ofBits .bf16 (lit0t (256 * k.val + l.val)) := by
  have h : (V m c main_cst : S256x256.Idx → EReal) = fun i => Ideal.ofBits .bf16 (lit0 (S256x256.rowMajor i)) := by
    unfold V
    after_results
    rfl
  rw [h]
  show Ideal.ofBits .bf16 (lit0t (S256x256.rowMajor (ix2 k l)).val) = _
  rw [Shape.rowMajor_val_two]
  show Ideal.ofBits .bf16 (lit0t (k.val * 256 + l.val)) = _
  rw [Nat.mul_comm]

theorem e0 : ∀ t, win0_0.index t = ![t.val, 0] := by decide +kernel
theorem e1 : ∀ t, win0_1.index t = ![0, 0] := by decide +kernel
theorem e2 : ∀ t, win0_2.index t = ![t.val, 0] := by decide +kernel
theorem e3 : ∀ t, win0_3.index t = ![t.val, 0] := by decide +kernel

theorem lt_16 (t : Fin cfg0.N) : t.val < 16 := t.isLt

theorem b0 (t : Fin cfg0.N) (y0 : Fin 256) (y1 : Fin 2048) : (iblk m c 0 t : S256x2048.Idx → EReal) (ix2 y0 y1) =
   (V m c main_v0 : S4096x2048.Idx → EReal) (ix2 ⟨256 * t.val + y0.val, by have := lt_16 t; omega⟩ y1) := by
  blk_ext [iblk, e0]

theorem b1 (t : Fin cfg0.N) (y0 y1 : Fin 256) : (iblk m c 1 t : S256x256.Idx → EReal) (ix2 y0 y1) = (V m c main_cst : S256x256.Idx → EReal) (ix2 y0 y1) := by
  blk_ext [iblk, e1]

/-- A sum over 256 entries whose weights vanish outside the half `q` is the sum over that half. -/
theorem sum_half (f w : Fin 256 → EReal) (g : Fin 128 → EReal) (q : Fin 2)
    (hw : ∀ (p : Fin 2) (k : Fin 128), w ⟨128 * p.val + k.val, by omega⟩ = if p = q then g k else 0) :
    (∑ k : Fin 256, f k * w k) = ∑ k : Fin 128, f ⟨128 * q.val + k.val, by omega⟩ * g k := by
  refine (Fin.sum_univ_add (a := 128) (b := 128) fun k : Fin 256 => f k * w k).trans ?_
  have e0 : ∀ k : Fin 128, (Fin.castAdd 128 k : Fin 256) = ⟨128 * (0 : Fin 2).val + k.val, by omega⟩ := fun k =>
    Fin.ext (by show k.val = 128 * 0 + k.val; omega)
  have e1 : ∀ k : Fin 128, (Fin.natAdd 128 k : Fin 256) = ⟨128 * (1 : Fin 2).val + k.val, by omega⟩ := fun k =>
    Fin.ext (by show 128 + k.val = 128 * 1 + k.val; omega)
  simp only [e0, e1, hw]
  have hq : q = 0 ∨ q = 1 := by omega
  rcases hq with rfl | rfl
  · simp
  · simp

/-- A column of the table of 256 rows: its own half is a column of the table of 128 rows, the rest is zero. -/
theorem weight (q : Fin 2) (r : Fin 128) (p : Fin 2) (k : Fin 128) :
    Ideal.ofBits .bf16 (lit0t (256 * (128 * p.val + k.val) + (128 * q.val + r.val)))
      = if p = q then Ideal.ofBits .bf16 (Cert.ReferenceIdeal.lit0t (128 * k.val + r.val)) else 0 := by
  have hz : Ideal.ofBits .bf16 (0#16) = 0 := by
    unfold Ideal.ofBits Ideal.ieee
    simp
  rw [table (128 * p.val + k.val) (128 * q.val + r.val) (by omega) (by omega)]
  rw [show (128 * p.val + k.val) / 128 = p.val by omega, show (128 * q.val + r.val) / 128 = q.val by omega,
    show (128 * p.val + k.val) % 128 = k.val by omega, show (128 * q.val + r.val) % 128 = r.val by omega]
  by_cases h : p = q
  · rw [if_pos h, if_pos (congrArg Fin.val h)]
  · rw [if_neg h, if_neg fun e => h (Fin.ext e), hz]

/-- Row `r` of the products of block `t` is row `256 t + r` of the transformed argument. -/
theorem prod_block (t : Fin cfg0.N) (r : Fin 256) :
    prod (iblk m c 0 t) (iblk m c 1 t) r = row (m ((c : Thread nD τ).loc main_arg0)) ⟨256 * t.val + r.val, by have := lt_16 t; omega⟩ := by
  funext j
  unfold prod row
  refine congrArg (· * _) ?_
  refine (Finset.sum_congr rfl fun k _ => congrArg₂ (fun a b : EReal => a * b) ((b0 m c t r _).trans (V_x m c _ _)) ((b1 m c t k _).trans (V_h m c k _))).trans ?_
  generalize (m ((c : Thread nD τ).loc main_arg0) : S2x2048x2048.Idx → EReal) = X
  refine (sum_half _ _ (fun k => Ideal.ofBits .bf16 (Cert.ReferenceIdeal.lit0t (128 * k.val + j.val % 128))) ⟨j.val % 256 / 128, by omega⟩ fun p k => ?_).trans ?_
  · have e := weight ⟨j.val % 256 / 128, by omega⟩ ⟨j.val % 128, by omega⟩ p k
    have ej : 128 * (j.val % 256 / 128) + j.val % 128 = j.val % 256 := by omega
    simp only [ej] at e
    exact e
  · refine Finset.sum_congr rfl fun k _ => ?_
    refine congrArg (· * _) (congrArg X (congrArg _ (Fin.ext ?_)))
    show 256 * (j.val / 256) + (128 * (j.val % 256 / 128) + k.val) = 128 * (j.val / 128) + k.val
    omega

/-- The scales after the run. -/
theorem scales : (dats m 0 c).arrAt 2 cfg0.N = fun i : S4096x1.Idx => rowScale (row (m ((c : Thread nD τ).loc main_arg0)) (i 0)) := by
  refine (dats m 0 c).arrAt_eq_of_covers 2 _ (by decide +kernel) fun t hf y => ?_
  blk_simp
  rw [after0_2]
  unfold outsAt0
  dsimp only
  refine (out_scale _ _ _ _ _ _ _ _ _ _ _ _ _ _ _).trans ?_
  refine (congrArg rowScale (prod_block m c t (y 0))).trans ?_
  refine congrArg rowScale (congrArg (row _) (Fin.ext ?_))
  blk_simp [e2]
  show 256 * t.val + (y 0).val = t.val * 256 + (y 0).val
  omega

/-- The codes after the run. -/
theorem codes : (dats m 0 c).arrAt 3 cfg0.N = fun i : S4096x2048.Idx => rowCode (row (m ((c : Thread nD τ).loc main_arg0)) (i 0)) (i 1) := by
  refine (dats m 0 c).arrAt_eq_of_covers 3 _ (by decide +kernel) fun t hf y => ?_
  blk_simp
  rw [after0_3]
  unfold outsAt0
  dsimp only
  refine (out_codes _ _ _ _ _ _ _ _ _ _ _ _ _ _ _).trans ?_
  refine (congrArg (rowCode · (y 1)) (prod_block m c t (y 0))).trans ?_
  refine congrArg₂ rowCode (congrArg (row _) (Fin.ext ?_)) (Fin.ext ?_)
  · blk_simp [e3]
    show 256 * t.val + (y 0).val = t.val * 256 + (y 0).val
    omega
  · blk_simp [e3]

end Arrays

end Cert.Quant

end
-- ==== Proof.Stages.lean ====
/- The reference, stage by stage, as functions of its argument: the transformed rows, the largest magnitude of each, the exponent, and the
   codes. Each stage is the one the kernel's arrays were read as. -/
module

public import proofs.«01_k».proof.Proof.Gen.ReferenceIdeal.Run
public import proofs.«01_k».proof.Proof.Array
public import Idealize.ShloMosaic.Lib.Pointwise

@[expose] public section

set_option maxRecDepth 16384

noncomputable section

namespace Cert.Quant

open Cert.ReferenceIdeal Cert.ReferenceIdeal.Gen Idealize.ShloMosaic Idealize.ShloMosaic.TcCoe Idealize.SL.Sem

/-- The reference's transformed argument. -/
def rY (X : FVec Ideal S2x2048x2048 .bf16) : FVec Ideal S2x2048x2048 .f32 :=
  shapeCast S2x2048x2048
    (mulf (Host.dotGeneral dot_S2x2048x16x128_S128x128_S2x2048x16x128_3_0_012_1_n_n none
        (shapeCast S2x2048x16x128 X shapeCasts_S2x2048x2048_S2x2048x16x128)
        (fun i => FloatOps.ofBits (F := Ideal) FTy.bf16 (lit0 (S128x128.rowMajor i))))
      (broadcastInDim S2x2048x16x128 ![] bcast_S_S2x2048x16x128 (constant (F := Ideal) S_ FTy.f32 0x3DB504F3#32)))
    shapeCasts_S2x2048x16x128_S2x2048x2048

/-- The reference's largest magnitudes. -/
def rA (y : FVec Ideal S2x2048x2048 .f32) : FVec Ideal S2x2048x1 .f32 :=
  broadcastInDim S2x2048x1 ![0, 1] bcast_S2x2048_S2x2048x1_0_1
    (Host.reduce FloatOps.maximumf (Host.absf y) (constant (F := Ideal) S_ FTy.f32 0xFF800000#32) reducesTo_S2x2048x2048_S2x2048_d2 h_S_)

/-- The reference's largest magnitudes over the largest code. -/
def rT (a : FVec Ideal S2x2048x1 .f32) : FVec Ideal S2x2048x1 .f32 :=
  mulf a (broadcastInDim S2x2048x1 ![] bcast_S_S2x2048x1 (constant (F := Ideal) S_ FTy.f32 0x3B124925#32))

/-- The reference's exponents. -/
def rE (a t : FVec Ideal S2x2048x1 .f32) : IVec S2x2048x1 32 :=
  select (cmpf .oeq a (broadcastInDim S2x2048x1 ![] bcast_S_S2x2048x1 (constant (F := Ideal) S_ FTy.f32 0x00000000#32)))
    (broadcastInDim S2x2048x1 ![] bcast_S_S2x2048x1 (constantI S_ 32 0#32))
    (fptosi 32 (select
      (andi (cmpf .olt (Host.absf t) (broadcastInDim S2x2048x1 ![] bcast_S_S2x2048x1 (constant (F := Ideal) S_ FTy.f32 0x7F800000#32)))
        (cmpf .une t (broadcastInDim S2x2048x1 ![] bcast_S_S2x2048x1 (constant (F := Ideal) S_ FTy.f32 0x00000000#32))))
      (addf (Host.floor (Host.divf (Host.log t)
          (broadcastInDim S2x2048x1 ![] bcast_S_S2x2048x1 (Host.log (constant (F := Ideal) S_ FTy.f32 0x40000000#32)))))
        (broadcastInDim S2x2048x1 ![] bcast_S_S2x2048x1 (constant (F := Ideal) S_ FTy.f32 0x3F800000#32)))
      (broadcastInDim S2x2048x1 ![] bcast_S_S2x2048x1 (sitofp (F := Ideal) .f32 (constantI S_ 32 0#32)))))

/-- A power of two for each exponent. -/
def rP (e : IVec S2x2048x1 32) : FVec Ideal S2x2048x1 .f32 :=
  Host.powf (broadcastInDim S2x2048x1 ![] bcast_S_S2x2048x1 (constant (F := Ideal) S_ FTy.f32 0x40000000#32)) (sitofp .f32 e)

/-- The reference's codes. -/
def rC (y : FVec Ideal S2x2048x2048 .f32) (p : FVec Ideal S2x2048x1 .f32) : FVec Ideal S2x2048x2048 .f32 :=
  minimumf (broadcastInDim S2x2048x2048 ![] bcast_S_S2x2048x2048 (constant (F := Ideal) S_ FTy.f32 0x43E00000#32))
    (maximumf (broadcastInDim S2x2048x2048 ![] bcast_S_S2x2048x2048 (constant (F := Ideal) S_ FTy.f32 0xC3E00000#32))
      (mulf y (broadcastInDim S2x2048x2048 ![0, 1, 2] bcast_S2x2048x1_S2x2048x2048_0_1_2 p)))

theorem flat_row (X : S2x2048x2048.Idx → EReal) (i : Fin 4096) (j : Fin 2048) :
    shapeCast S4096x2048 X shapeCasts_S2x2048x2048_S4096x2048 (ix2 i j)
      = X (ix3 (n0 := 2) (n1 := 2048) (n2 := 2048) ⟨i.val / 2048, by omega⟩ ⟨i.val % 2048, by omega⟩ j) := cast_x X i j

theorem flat_col (X : S2x2048x1.Idx → EReal) (i : Fin 4096) :
    shapeCast S4096x1 X shapeCasts_S2x2048x1_S4096x1 (ix2 i 0)
      = X (ix3 (n0 := 2) (n1 := 2048) (n2 := 1) ⟨i.val / 2048, by omega⟩ ⟨i.val % 2048, by omega⟩ 0) := by
  refine shapeCast_apply _ _ _ _ ?_
  rw [Shape.rowMajor_val_two, Shape.rowMajor_val_three]
  show (i.val / 2048 * 2048 + i.val % 2048) * 1 + 0 = i.val * 1 + 0
  omega

theorem split_lane (X : S2x2048x2048.Idx → EReal) (b : Fin 2) (s : Fin 2048) (g : Fin 16) (l : Fin 128) :
    shapeCast S2x2048x16x128 X shapeCasts_S2x2048x2048_S2x2048x16x128 (ix4 b s g l)
      = X (ix3 (n0 := 2) (n1 := 2048) (n2 := 2048) b s ⟨128 * g.val + l.val, by omega⟩) := by
  refine shapeCast_apply _ _ _ _ ?_
  rw [Shape.rowMajor_val_four, Shape.rowMajor_val_three]
  show (b.val * 2048 + s.val) * 2048 + (128 * g.val + l.val) = ((b.val * 2048 + s.val) * 16 + g.val) * 128 + l.val
  omega

theorem join_lane (X : S2x2048x16x128.Idx → EReal) (b : Fin 2) (s j : Fin 2048) :
    shapeCast S2x2048x2048 X shapeCasts_S2x2048x16x128_S2x2048x2048 (ix3 b s j)
      = X (ix4 (n0 := 2) (n1 := 2048) (n2 := 16) (n3 := 128) b s ⟨j.val / 128, by omega⟩ ⟨j.val % 128, by omega⟩) := by
  refine shapeCast_apply _ _ _ _ ?_
  rw [Shape.rowMajor_val_four, Shape.rowMajor_val_three]
  show ((b.val * 2048 + s.val) * 16 + j.val / 128) * 128 + j.val % 128 = (b.val * 2048 + s.val) * 2048 + j.val
  omega

theorem rY_apply (X : FVec Ideal S2x2048x2048 .bf16) (i : Fin 4096) (j : Fin 2048) :
    rY X (ix3 (n0 := 2) (n1 := 2048) (n2 := 2048) ⟨i.val / 2048, by omega⟩ ⟨i.val % 2048, by omega⟩ j) = row X i j := by
  unfold rY
  refine (join_lane _ _ _ _).trans ?_
  unfold row
  have hs := split_lane X
  generalize shapeCast S2x2048x16x128 X shapeCasts_S2x2048x2048_S2x2048x16x128 = Z at hs
  pointwise []
  refine congrArg (· * _) (Finset.sum_congr rfl fun k _ => ?_)
  refine congrArg₂ (fun a b : EReal => a * b) (hs _ _ _ _) ?_
  show Ideal.ofBits .bf16 (lit0t (S128x128.rowMajor (ix2 k _)).val) = _
  rw [Shape.rowMajor_val_two]
  show Ideal.ofBits .bf16 (lit0t (k.val * 128 + j.val % 128)) = _
  rw [Nat.mul_comm]

theorem rA_apply (y : FVec Ideal S2x2048x2048 .f32) (b : Fin 2) (s : Fin 2048) :
    rA y (ix3 b s 0) = amax fun j => y (ix3 b s j) := by
  unfold rA amax
  pointwise []
  simp only [neg_inf_f32]
  rfl

theorem rE_apply (a t : FVec Ideal S2x2048x1 .f32) (j : S2x2048x1.Idx) : rE a t j = expo (a j) (t j) := by
  unfold rE
  idx_vars j
  pointwise []
  generalize a (ix3 j0 j1 j2) = a
  generalize t (ix3 j0 j1 j2) = t
  have hz : FloatOps.fptosi 32 (FloatOps.sitofp (F := Ideal) FTy.f32 0#32) = 0#32 := fptosi_zero
  unfold expo flog
  simp only [two_f32, inf_f32, absf_ideal, andi_of, sel]
  split_ifs with h1 h2 h3 h3
  · rfl
  · exact absurd h3 (by rintro (h | h); exacts [h2.2 h, absurd h2.1 (by rw [h]; exact lt_irrefl _)])
  · rfl
  · exact hz
  · exact absurd ⟨lt_top_iff_ne_top.2 fun h => h3 (Or.inr h), fun h => h3 (Or.inl h)⟩ h2

theorem rP_apply (e : IVec S2x2048x1 32) (j : S2x2048x1.Idx) : rP e j = Ideal.exp2 (FloatOps.sitofp (F := Ideal) .f32 (e j)) := by
  unfold rP
  pointwise []
  rw [two_f32]
  rfl

theorem rC_apply (y : FVec Ideal S2x2048x2048 .f32) (p : FVec Ideal S2x2048x1 .f32) (b : Fin 2) (s j : Fin 2048) :
    rC y p (ix3 b s j) = min (Ideal.ofBits .f32 0x43E00000#32) (max (Ideal.ofBits .f32 0xC3E00000#32) (y (ix3 b s j) * p (ix3 b s 0))) := by
  unfold rC
  pointwise []

theorem rT_apply (a : FVec Ideal S2x2048x1 .f32) (j : S2x2048x1.Idx) : rT a j = (a j : EReal) * Ideal.ofBits .f32 0x3B124925#32 := by
  unfold rT
  pointwise []

/-- The exponent the stages make of row `i`. -/
theorem stage_expo (X : FVec Ideal S2x2048x2048 .bf16) (i : Fin 4096) :
    rE (rA (rY X)) (rT (rA (rY X))) (ix3 (n0 := 2) (n1 := 2048) (n2 := 1) ⟨i.val / 2048, by omega⟩ ⟨i.val % 2048, by omega⟩ 0) = rowExpo (row X i) := by
  have e : rA (rY X) (ix3 (n0 := 2) (n1 := 2048) (n2 := 1) ⟨i.val / 2048, by omega⟩ ⟨i.val % 2048, by omega⟩ 0) = amax (row X i) :=
    (rA_apply _ _ _).trans (congrArg amax (funext fun j => rY_apply X i j))
  rw [rE_apply, rT_apply, e]
  rfl

/-- The scales the stages make of an argument. -/
theorem stage_scale (X : FVec Ideal S2x2048x2048 .bf16) :
    (shapeCast (α := EReal) S4096x1 (rP (rE (rA (rY X)) (rT (rA (rY X))))) shapeCasts_S2x2048x1_S4096x1)
      = fun i : S4096x1.Idx => rowScale (row X (i 0)) := by
  funext i
  idx_vars i
  obtain rfl : i1 = 0 := Subsingleton.elim _ _
  refine (flat_col _ i0).trans ?_
  rw [rP_apply, stage_expo]
  rfl

/-- The codes the stages make of an argument. -/
theorem stage_codes (X : FVec Ideal S2x2048x2048 .bf16) :
    (shapeCast (α := EReal) S4096x2048 (rC (rY X) (rP (negi (rE (rA (rY X)) (rT (rA (rY X))))))) shapeCasts_S2x2048x2048_S4096x2048)
      = fun i : S4096x2048.Idx => rowCode (row X (i 0)) (i 1) := by
  funext i
  idx_vars i
  refine (flat_row _ i0 i1).trans ?_
  rw [rC_apply, rP_apply, rY_apply]
  have e : negi (rE (rA (rY X)) (rT (rA (rY X)))) (ix3 (n0 := 2) (n1 := 2048) (n2 := 1) ⟨i0.val / 2048, by omega⟩ ⟨i0.val % 2048, by omega⟩ 0)
      = IntOp.subi 0#32 (rowExpo (row X i0)) := by
    rw [← stage_expo]
    exact (BitVec.zero_sub _).symm
  rw [e]
  rfl

end Cert.Quant

end
-- ==== Proof.RefArray.lean ====
/- The reference's two results after its run, row by row the scale and the codes of the transformed row. -/
module

public import proofs.«01_k».proof.Proof.Gen.ReferenceIdeal.Run
public import proofs.«01_k».proof.Proof.Stages

@[expose] public section

set_option maxRecDepth 16384

noncomputable section

namespace Cert.Quant

open Cert.ReferenceIdeal Cert.ReferenceIdeal.Gen Idealize.ShloMosaic Idealize.ShloMosaic.TcCoe Idealize.SL.Sem

variable (m : (ℓ : Loc nD τ sig) → Buf (Elt Ideal) ℓ)

/-- The reference's codes, as the stages of its argument. Over the extended reals the cast to fp8 is the identity. -/
theorem ref_codes (c : Dev nD) : Cert.ReferenceIdeal.Value.res_out1 m c
    = fun i : S4096x2048.Idx => rowCode (row (m ((c : Thread nD τ).loc main_arg0)) (i 0)) (i 1) := by
  refine Eq.trans ?_ (stage_codes (m ((c : Thread nD τ).loc main_arg0)))
  unfold Cert.ReferenceIdeal.Value.res_out1 Cert.ReferenceIdeal.Value.res_main_v41 rC rP rE rT rA rY
  rfl

/-- The reference's run: both results, and the argument unchanged. -/
theorem ref_run (ρ : Dev nD → PrngReg) : θ_run defs (onTc (τ := τ) (main (F := Ideal))) ⟨m, fun _ => 0, ρ⟩ fun r => ∀ c : Dev nD,
      r.2.mem ((c : Thread nD τ).loc main_v39) = (fun i : S4096x1.Idx => rowScale (row (m ((c : Thread nD τ).loc main_arg0)) (i 0)))
      ∧ r.2.mem ((c : Thread nD τ).loc main_v41) = (fun i : S4096x2048.Idx => rowCode (row (m ((c : Thread nD τ).loc main_arg0)) (i 0)) (i 1))
      ∧ r.2.mem ((c : Thread nD τ).loc main_arg0) = m ((c : Thread nD τ).loc main_arg0) := by
  refine (θ_run defs _ _).mono (fun r h c => ⟨(h c).1.trans ?_, (h c).2.1.trans (ref_codes m c), (h c).2.2⟩) (Cert.ReferenceIdeal.Value.run m ρ)
  refine Eq.trans ?_ (stage_scale (m ((c : Thread nD τ).loc main_arg0)))
  unfold rP rE rT rA rY
  rfl

end Cert.Quant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefArray
public import Idealize.ShloMosaic.Adequacy
public import Idealize.ShloMosaic.Init

@[expose] public section

noncomputable section

namespace Cert.Proof

open Idealize.ShloMosaic Idealize.SL.Sem

/-- The kernel and the reference, run from equal arguments over the extended reals, end with equal scales and equal codes. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dats m 0 c).arrAt 2 Cert.KernelIdeal.cfg0.N,
    fun c => (Cert.KernelIdeal.Gen.dats m 0 c).arrAt 3 Cert.KernelIdeal.cfg0.N,
    Cert.KernelIdeal.Value.run_blocks (F := Ideal) m g, ?_⟩
  refine (θ_run (Cert.ReferenceIdeal.defs (F := Ideal)) _ _).mono (fun r h c => ?_) (Cert.Quant.ref_run m' g')
  obtain ⟨hs, hc, h0⟩ := h c
  refine ⟨hs.trans ?_, hc.trans ?_, h0⟩
  · rw [hargs c]
    exact (Cert.Quant.scales m c).symm
  · rw [hargs c]
    exact (Cert.Quant.codes m c).symm

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ,
    fun m ρ _ => (θ_run (Cert.ReferenceIdeal.defs (F := Ideal)) _ _).mono (fun r h => ⟨fun c => (h c).2.2,
      sem_eq_zero_of_no_sems (by decide) r.2⟩) (Cert.Quant.ref_run m ρ), trivial, algebraic⟩

end Cert.Proof

end
